-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_0)) (v2 : (c : Dev Cert.KernelIdeal.nD) → Buf (Elt Ideal) ((c.tc : Thread Cert.KernelIdeal.nD Cert.KernelIdeal.τ).loc Cert.KernelIdeal.main_v2_1)) (v3 : (c : Dev Cert.KernelIdeal.nD) → Buf (Elt Ideal) ((c.tc : Thread Cert.KernelIdeal.nD Cert.KernelIdeal.τ).loc Cert.KernelIdeal.main_v2_2)) (v4 : (c : Dev Cert.KernelIdeal.nD) → Buf (Elt Ideal) ((c.tc : Thread Cert.KernelIdeal.nD Cert.KernelIdeal.τ).loc Cert.KernelIdeal.main_v3)) (v5 : (c : Dev Cert.KernelIdeal.nD) → Buf (Elt Ideal) ((c.tc : Thread Cert.KernelIdeal.nD Cert.KernelIdeal.τ).loc Cert.KernelIdeal.main_v2_4)) (v6 : (c : Dev Cert.KernelIdeal.nD) → Buf (Elt Ideal) ((c.tc : Thread Cert.KernelIdeal.nD Cert.KernelIdeal.τ).loc Cert.KernelIdeal.main_v2_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_v2_1) = v2 c
          ∧ r.2.mem ((c.tc : Thread Cert.KernelIdeal.nD Cert.KernelIdeal.τ).loc Cert.KernelIdeal.main_v2_2) = v3 c
          ∧ r.2.mem ((c.tc : Thread Cert.KernelIdeal.nD Cert.KernelIdeal.τ).loc Cert.KernelIdeal.main_v3) = v4 c
          ∧ r.2.mem ((c.tc : Thread Cert.KernelIdeal.nD Cert.KernelIdeal.τ).loc Cert.KernelIdeal.main_v2_4) = v5 c
          ∧ r.2.mem ((c.tc : Thread Cert.KernelIdeal.nD Cert.KernelIdeal.τ).loc Cert.KernelIdeal.main_v2_5) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_v13) = v3 c
          ∧ r.2.mem ((c.tc : Thread Cert.ReferenceIdeal.nD Cert.ReferenceIdeal.τ).loc Cert.ReferenceIdeal.main_v25) = v4 c
          ∧ r.2.mem ((c.tc : Thread Cert.ReferenceIdeal.nD Cert.ReferenceIdeal.τ).loc Cert.ReferenceIdeal.main_indices) = v5 c
          ∧ r.2.mem ((c.tc : Thread Cert.ReferenceIdeal.nD Cert.ReferenceIdeal.τ).loc Cert.ReferenceIdeal.main_v17) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x2048x2048 : Shape := ⟨3, ![4, 2048, 2048]⟩
abbrev S16x2048 : Shape := ⟨2, ![16, 2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S16x2048 : S_.BroadcastsInDim S16x2048 (![] : Fin 0 → Fin S16x2048.rank)
  reducesTo_S16x2048_S_d0_1 : S16x2048.ReducesTo [0, 1] S_

variable [Facts]

def fn {F : FTy → Type} [FloatOps F] (main_arg0 : FVec F S4x2048x2048 .f32) (main_arg1 : FVec F S16x2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S16x2048 .f32 := Host.absf main_arg1
  let main_cst_0 : FVec F S_ .f32 := constant S_ .f32 0x7F800000#32
  let main_v5 : FVec F S16x2048 .f32 := broadcastInDim S16x2048 ![] bcast_S_S16x2048 main_cst_0
  let main_v6 : IVec S16x2048 1 := cmpf .olt main_v4 main_v5
  let main_c_1 : IVec S_ 1 := constantI S_ 1 1#1
  let main_v7 : IVec S_ 1 := (fun x v => Host.reduce IntOp.andi x v reducesTo_S16x2048_S_d0_1 h_S_) main_v6 main_c_1
  let main_v8 : IVec S_ 1 := andi main_v3 main_v7
  main_v8
-- ==== Kernel.lean ====
abbrev S4x2048x2048 : Shape := ⟨3, ![4, 2048, 2048]⟩
abbrev S16x2048 : Shape := ⟨2, ![16, 2048]⟩
abbrev S8192x2048 : Shape := ⟨2, ![8192, 2048]⟩
abbrev S2048x16 : Shape := ⟨2, ![2048, 16]⟩
abbrev S8192x16 : Shape := ⟨2, ![8192, 16]⟩
abbrev S1x1 : Shape := ⟨2, ![1, 1]⟩
abbrev S8192x2 : Shape := ⟨2, ![8192, 2]⟩
abbrev S1024x2048 : Shape := ⟨2, ![1024, 2048]⟩
abbrev S1024x16 : Shape := ⟨2, ![1024, 16]⟩
abbrev S1024x2 : Shape := ⟨2, ![1024, 2]⟩
abbrev S1x16 : Shape := ⟨2, ![1, 16]⟩
abbrev S1024 : Shape := ⟨1, ![1024]⟩
abbrev S1024x1 : Shape := ⟨2, ![1024, 1]⟩
abbrev S16 : Shape := ⟨1, ![16]⟩
abbrev S1 : Shape := ⟨1, ![1]⟩
abbrev S_ : Shape := ⟨0, ![]⟩

abbrev nBuf : Space → Nat
  | .hbm => 11
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S16x2048, .f32⟩
  | .hbm, ⟨2, _⟩ => ⟨S8192x2048, .f32⟩
  | .hbm, ⟨3, _⟩ => ⟨S2048x16, .f32⟩
  | .hbm, ⟨4, _⟩ => ⟨S8192x16, .f32⟩
  | .hbm, ⟨5, _⟩ => ⟨S8192x16, .f32⟩
  | .hbm, ⟨6, _⟩ => ⟨S8192x16, .f32⟩
  | .hbm, ⟨7, _⟩ => ⟨S1x1, .f32⟩
  | .hbm, ⟨8, _⟩ => ⟨S8192x2, .i32⟩
  | .hbm, ⟨9, _⟩ => ⟨S8192x2, .f32⟩
  | .hbm, ⟨10, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S2048x16, .f32⟩
  | .local _ .vmem, ⟨3, _⟩ => ⟨S1024x16, .f32⟩
  | .local _ .vmem, ⟨4, _⟩ => ⟨S1024x16, .f32⟩
  | .local _ .vmem, ⟨5, _⟩ => ⟨S1024x16, .f32⟩
  | .local _ .vmem, ⟨6, _⟩ => ⟨S1024x16, .f32⟩
  | .local _ .vmem, ⟨7, _⟩ => ⟨S1024x16, .f32⟩
  | .local _ .vmem, ⟨8, _⟩ => ⟨S1024x16, .f32⟩
  | .local _ .vmem, ⟨9, _⟩ => ⟨S1x1, .f32⟩
  | .local _ .vmem, ⟨10, _⟩ => ⟨S1024x2, .i32⟩
  | .local _ .vmem, ⟨11, _⟩ => ⟨S1024x2, .i32⟩
  | .local _ .vmem, ⟨12, _⟩ => ⟨S1024x2, .f32⟩
  | .local _ .vmem, ⟨13, _⟩ => ⟨S1024x2, .f32⟩
  | .local _ .vmem, ⟨14, _⟩ => ⟨S1x16, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev main_v2_5 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_23 : BitVec 32 := 0#32
  let v69 : BitVec 1 := Scalar.cmpi .eq arg0 c0_i32_23
  let v70 : BitVec 32 := Scalar.extui v69
  let c0_i32_24 : BitVec 32 := 0#32
  let v71 : BitVec 1 := Scalar.cmpi .ne v70 c0_i32_24
  v71

def k0_cond2 (i : grid0.Coords) : BitVec 1 :=
  let arg0 : BitVec 32 := BitVec.ofNat 32 (i 0).val
  let c7_i32 : BitVec 32 := 7#32
  let v79 : BitVec 1 := Scalar.cmpi .eq arg0 c7_i32
  let v80 : BitVec 32 := Scalar.extui v79
  let c0_i32_30 : BitVec 32 := 0#32
  let v81 : BitVec 1 := Scalar.cmpi .ne v80 c0_i32_30
  v81

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x2 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4x2048x2048 : Shape := ⟨3, ![4, 2048, 2048]⟩
abbrev S16x2048 : Shape := ⟨2, ![16, 2048]⟩
abbrev S8192x2048 : Shape := ⟨2, ![8192, 2048]⟩
abbrev S2048x16 : Shape := ⟨2, ![2048, 16]⟩
abbrev S8192x16 : Shape := ⟨2, ![8192, 16]⟩
abbrev S_ : Shape := ⟨0, ![]⟩
abbrev S8192 : Shape := ⟨1, ![8192]⟩
abbrev S8192x1 : Shape := ⟨2, ![8192, 1]⟩
abbrev S8192x2 : Shape := ⟨2, ![8192, 2]⟩
abbrev S16 : Shape := ⟨1, ![16]⟩
abbrev S8192x2x1 : Shape := ⟨3, ![8192, 2, 1]⟩
abbrev S8192x2x2 : Shape := ⟨3, ![8192, 2, 2]⟩

abbrev nBuf : Space → Nat
  | .hbm => 62
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S16x2048, .f32⟩
  | .hbm, ⟨2, _⟩ => ⟨S8192x2048, .f32⟩
  | .hbm, ⟨3, _⟩ => ⟨S2048x16, .f32⟩
  | .hbm, ⟨4, _⟩ => ⟨S8192x16, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192x1, .f32⟩
  | .hbm, ⟨11, _⟩ => ⟨S8192x16, .f32⟩
  | .hbm, ⟨12, _⟩ => ⟨S8192x16, .f32⟩
  | .hbm, ⟨13, _⟩ => ⟨S8192x16, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x16, .f32⟩
  | .hbm, ⟨18, _⟩ => ⟨S8192x16, .f32⟩
  | .hbm, ⟨19, _⟩ => ⟨S8192x2, .f32⟩
  | .hbm, ⟨20, _⟩ => ⟨S8192x2, .i32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x2, .f32⟩
  | .hbm, ⟨25, _⟩ => ⟨S8192x2, .f32⟩
  | .hbm, ⟨26, _⟩ => ⟨S_, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .i32⟩
  | .hbm, ⟨40, _⟩ => ⟨S8192x1, .i32⟩
  | .hbm, ⟨41, _⟩ => ⟨S8192x2, .i32⟩
  | .hbm, ⟨42, _⟩ => ⟨S_, .f32⟩
  | .hbm, ⟨43, _⟩ => ⟨S8192x16, .f32⟩
  | .hbm, ⟨44, _⟩ => ⟨S_, .i32⟩
  | .hbm, ⟨45, _⟩ => ⟨S8192x2, .i32⟩
  | .hbm, ⟨46, _⟩ => ⟨S8192x2, .i1⟩
  | .hbm, ⟨47, _⟩ => ⟨S_, .i32⟩
  | .hbm, ⟨48, _⟩ => ⟨S8192x2, .i32⟩
  | .hbm, ⟨49, _⟩ => ⟨S8192x2, .i32⟩
  | .hbm, ⟨50, _⟩ => ⟨S8192x2, .i32⟩
  | .hbm, ⟨51, _⟩ => ⟨S_, .i32⟩
  | .hbm, ⟨52, _⟩ => ⟨S8192x2, .i32⟩
  | .hbm, ⟨53, _⟩ => ⟨S8192x2, .i1⟩
  | .hbm, ⟨54, _⟩ => ⟨S_, .i32⟩
  | .hbm, ⟨55, _⟩ => ⟨S8192x2, .i32⟩
  | .hbm, ⟨56, _⟩ => ⟨S8192x2, .i32⟩
  | .hbm, ⟨57, _⟩ => ⟨S8192x2, .i32⟩
  | .hbm, ⟨58, _⟩ => ⟨S8192x2x1, .i32⟩
  | .hbm, ⟨59, _⟩ => ⟨S8192x2x1, .i32⟩
  | .hbm, ⟨60, _⟩ => ⟨S8192x2x2, .i32⟩
  | .hbm, ⟨61, _⟩ => ⟨S8192x16, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values : Ref sig .tc := ⟨.hbm, 19, rfl⟩
abbrev main_indices : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_c : Ref sig .tc := ⟨.hbm, 44, rfl⟩
abbrev main_v30 : Ref sig .tc := ⟨.hbm, 45, rfl⟩
abbrev main_v31 : Ref sig .tc := ⟨.hbm, 46, rfl⟩
abbrev main_c_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_10 : Ref sig .tc := ⟨.hbm, 51, rfl⟩
abbrev main_v35 : Ref sig .tc := ⟨.hbm, 52, rfl⟩
abbrev main_v36 : Ref sig .tc := ⟨.hbm, 53, rfl⟩
abbrev main_c_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Proof.Row.lean ====
/- One row of router probabilities: its greatest entry, the first place it stands at, and the same among the others;
   and that a stable descending sort's first two positions, and two rounds of maximum and least index, both find them. -/
module

public import Idealize.ShloMosaic.Lib.SortPrefix
public import Idealize.ShloMosaic.PureOps.Ideal.Laws

@[expose] public section

noncomputable section

namespace Cert.Proof

open Idealize.ShloMosaic

/-- The greatest of a row's sixteen entries. -/
def rowMax (p : Fin 16 → EReal) : EReal := Finset.univ.fold max ⊥ p

/-- The least index at which a row's entry is `m`, as a word; `16` stands for an index whose entry is not `m`. -/
def firstAt (p : Fin 16 → EReal) (m : EReal) : BitVec 32 :=
  Finset.univ.fold IntOp.minsi 2147483647#32 fun k : Fin 16 => if p k = m then BitVec.ofNat 32 k.val else 16#32

/-- The row with its entry at the index `w` replaced by −∞. -/
def without (p : Fin 16 → EReal) (w : BitVec 32) : Fin 16 → EReal :=
  fun k => if BitVec.ofNat 32 k.val = w then ⊥ else p k

/-- The softmax of a row of logits: exponentials of the differences to the greatest logit, divided by their sum. -/
def softmax (l : Fin 16 → EReal) : Fin 16 → EReal :=
  fun j => Ideal.div (Ideal.exp (l j - rowMax l)) (∑ k, Ideal.exp (l k - rowMax l))

/-- The index the first round finds: the least at which the row has its maximum. -/
def idx1 (p : Fin 16 → EReal) : BitVec 32 := firstAt p (rowMax p)

/-- The maximum the second round finds: of the row without the entry at `idx1`. -/
def max2 (p : Fin 16 → EReal) : EReal := rowMax (without p (idx1 p))

/-- The index the second round finds. -/
def idx2 (p : Fin 16 → EReal) : BitVec 32 := firstAt (without p (idx1 p)) (max2 p)

/-- The first of the two greatest entries, divided by their sum. -/
def share1 (p : Fin 16 → EReal) : EReal := Ideal.div (rowMax p) (rowMax p + max2 p)

/-- The second of the two greatest entries, divided by their sum. -/
def share2 (p : Fin 16 → EReal) : EReal := Ideal.div (max2 p) (rowMax p + max2 p)

/-- The dispatch row: the first share at the first index, the second at the second, zero elsewhere. -/
def dispatch (p : Fin 16 → EReal) (j : Fin 16) : EReal :=
  if BitVec.ofNat 32 j.val = idx1 p then share1 p else if BitVec.ofNat 32 j.val = idx2 p then share2 p else 0

/-- The row of the two indices. -/
def topIdx (p : Fin 16 → EReal) (k : Fin 2) : BitVec 32 := if k = 0 then idx1 p else idx2 p

/-- The row of the two shares. -/
def topShare (p : Fin 16 → EReal) (k : Fin 2) : EReal := if k = 0 then share1 p else share2 p

/-- `a` is the first place of the row's greatest entry. -/
def IsTop1 (p : Fin 16 → EReal) (a : Fin 16) : Prop := ∀ j, p j ≤ p a ∧ (p j = p a → a ≤ j)

/-- `b` is the first place of the greatest of the row's entries other than the one at `a`. -/
def IsTop2 (p : Fin 16 → EReal) (a b : Fin 16) : Prop := b ≠ a ∧ ∀ j, j ≠ a → p j ≤ p b ∧ (p j = p b → b ≤ j)

/-- Among the places of a nonempty set there is a first one of the greatest entry. -/
theorem exists_first (p : Fin 16 → EReal) (s : Finset (Fin 16)) (hs : s.Nonempty) :
    ∃ a ∈ s, ∀ j ∈ s, p j ≤ p a ∧ (p j = p a → a ≤ j) := by
  obtain ⟨x, hx, hmax⟩ := s.exists_max_image p hs
  have hne : (s.filter fun j => p j = p x).Nonempty := ⟨x, Finset.mem_filter.mpr ⟨hx, rfl⟩⟩
  obtain ⟨a, ha, hmin⟩ := (s.filter fun j => p j = p x).exists_min_image id hne
  obtain ⟨has, hax⟩ := Finset.mem_filter.mp ha
  exact ⟨a, has, fun j hj => ⟨hax ▸ hmax j hj, fun e => hmin j (Finset.mem_filter.mpr ⟨hj, e.trans hax⟩)⟩⟩

theorem exists_isTop1 (p : Fin 16 → EReal) : ∃ a, IsTop1 p a := by
  obtain ⟨a, -, h⟩ := exists_first p Finset.univ ⟨0, Finset.mem_univ _⟩
  exact ⟨a, fun j => h j (Finset.mem_univ j)⟩

theorem exists_isTop2 (p : Fin 16 → EReal) (a : Fin 16) : ∃ b, IsTop2 p a b := by
  have hne : (Finset.univ.erase a).Nonempty := by
    rw [← Finset.card_pos, Finset.card_erase_of_mem (Finset.mem_univ a)]; simp
  obtain ⟨b, hb, h⟩ := exists_first p (Finset.univ.erase a) hne
  exact ⟨b, Finset.ne_of_mem_erase hb, fun j hj => h j (Finset.mem_erase.mpr ⟨hj, Finset.mem_univ j⟩)⟩

/-! ## Two rounds of maximum and least index -/

/-- The maximum of a row is the entry no other exceeds. -/
theorem rowMax_eq (p : Fin 16 → EReal) (a : Fin 16) (h : ∀ j, p j ≤ p a) : rowMax p = p a := by
  unfold rowMax
  apply le_antisymm
  · rw [Finset.fold_max_le]; exact ⟨bot_le, fun j _ => h j⟩
  · rw [Finset.le_fold_max]; exact Or.inr ⟨a, Finset.mem_univ a, le_rfl⟩

/-- A fold of the signed minimum is below (as a signed number) each folded word, and is one of them or the start. -/
theorem fold_minsi (f : Fin 16 → BitVec 32) (b : BitVec 32) (s : Finset (Fin 16)) :
    (s.fold IntOp.minsi b f = b ∨ ∃ k ∈ s, s.fold IntOp.minsi b f = f k) ∧
      (s.fold IntOp.minsi b f).toInt ≤ b.toInt ∧ ∀ k ∈ s, (s.fold IntOp.minsi b f).toInt ≤ (f k).toInt := by
  induction s using Finset.induction_on with
  | empty => simp
  | insert a s ha ih =>
    obtain ⟨hor, hb, hle⟩ := ih
    rw [Finset.fold_insert ha]
    generalize s.fold IntOp.minsi b f = g at *
    unfold IntOp.minsi
    by_cases hlt : (f a).slt g = true
    · have hlt' : (f a).toInt < g.toInt := by simpa [BitVec.slt] using hlt
      rw [if_pos hlt]
      refine ⟨Or.inr ⟨a, Finset.mem_insert_self a s, rfl⟩, by omega, fun k hk => ?_⟩
      rcases Finset.mem_insert.mp hk with rfl | hk
      · exact le_rfl
      · have := hle k hk; omega
    · have hlt' : g.toInt ≤ (f a).toInt := by simpa [BitVec.slt] using hlt
      rw [if_neg hlt]
      refine ⟨hor.imp_right fun ⟨k, hk, e⟩ => ⟨k, Finset.mem_insert_of_mem hk, e⟩, hb, fun k hk => ?_⟩
      rcases Finset.mem_insert.mp hk with rfl | hk
      · exact hlt'
      · exact hle k hk

/-- The signed value of a small word. -/
theorem toInt_ofNat_small (n : Nat) (h : n < 17) : (BitVec.ofNat 32 n).toInt = (n : Int) := by
  interval_cases n <;> rfl

/-- The least index of an entry is the word of its first place. -/
theorem firstAt_eq (p : Fin 16 → EReal) (a : Fin 16) (h : ∀ j, p j = p a → a ≤ j) :
    firstAt p (p a) = BitVec.ofNat 32 a.val := by
  obtain ⟨hor, -, hle⟩ := fold_minsi (fun k : Fin 16 => if p k = p a then BitVec.ofNat 32 k.val else 16#32)
    2147483647#32 Finset.univ
  have ha := hle a (Finset.mem_univ a)
  rw [if_pos rfl, toInt_ofNat_small a.val (by omega)] at ha
  unfold firstAt
  have hA := a.isLt
  rcases hor with e | ⟨k, -, e⟩
  · rw [e] at ha; exact absurd ha (by rw [show (2147483647#32 : BitVec 32).toInt = 2147483647 from rfl]; omega)
  · rw [e] at ha ⊢
    by_cases hk : p k = p a
    · rw [if_pos hk] at ha ⊢
      rw [toInt_ofNat_small k.val (by omega)] at ha
      have hak : a.val ≤ k.val := h k hk
      rw [show k.val = a.val by omega]
    · rw [if_neg hk] at ha
      exact absurd ha (by rw [show (16#32 : BitVec 32).toInt = 16 from rfl]; omega)

theorem ofNat_inj (i j : Fin 16) : BitVec.ofNat 32 i.val = BitVec.ofNat 32 j.val ↔ i = j := by
  revert i j; decide

theorem without_self (p : Fin 16 → EReal) (a : Fin 16) : without p (BitVec.ofNat 32 a.val) a = ⊥ := if_pos rfl

theorem without_of_ne (p : Fin 16 → EReal) (a j : Fin 16) (h : j ≠ a) : without p (BitVec.ofNat 32 a.val) j = p j :=
  if_neg fun e => h ((ofNat_inj j a).mp e)

section Rounds
variable (p : Fin 16 → EReal) (a b : Fin 16) (h1 : IsTop1 p a) (h2 : IsTop2 p a b)

include h1 in
/-- First round: the row's maximum is the entry at its first greatest place. -/
theorem round1_max : rowMax p = p a := rowMax_eq p a fun j => (h1 j).1

include h1 in
/-- First round: the index found is that place. -/
theorem round1_idx : firstAt p (rowMax p) = BitVec.ofNat 32 a.val := by
  rw [round1_max p a h1]; exact firstAt_eq p a fun j => (h1 j).2

include h2 in
/-- Second round: the maximum of the row without its first greatest entry. -/
theorem round2_max : rowMax (without p (BitVec.ofNat 32 a.val)) = p b := by
  rw [rowMax_eq _ b, without_of_ne p a b h2.1]
  intro j
  rw [without_of_ne p a b h2.1]
  by_cases hj : j = a
  · subst hj; rw [without_self]; exact bot_le
  · rw [without_of_ne p a j hj]; exact (h2.2 j hj).1

include h2 in
/-- Second round: the index found, provided that entry is above the −∞ the first one was replaced by. -/
theorem round2_idx (hb : ⊥ < p b) : firstAt (without p (BitVec.ofNat 32 a.val)) (p b) = BitVec.ofNat 32 b.val := by
  rw [← without_of_ne p a b h2.1]
  apply firstAt_eq
  intro j hj
  rw [without_of_ne p a b h2.1] at hj
  by_cases e : j = a
  · subst e; rw [without_self] at hj; exact absurd hj (ne_of_lt hb)
  · rw [without_of_ne p a j e] at hj; exact (h2.2 j e).2 hj
end Rounds

/-! ## The stable descending sort -/

/-- Descending order of the entries, as a comparator of positions. -/
def desc (p : Fin 16 → EReal) : Fin 16 → Fin 16 → Bool := fun k k' => decide (p k' < p k)

/-- Descending order of the entries, equal ones by position. -/
def descPos (p : Fin 16 → EReal) : Fin 16 → Fin 16 → Bool :=
  fun k k' => decide (p k' < p k) || (decide (p k = p k') && decide (k < k'))

theorem descPos_strict (p : Fin 16 → EReal) : StrictTotalBefore (descPos p) :=
  StrictTotalBefore.of_key_then_position (fun x y : EReal => decide (y < x)) p (fun a => by simp)
    (fun a b c hab hbc => by
      simp only [decide_eq_true_eq] at hab hbc ⊢; exact hbc.trans hab)
    (fun a b => by
      simp only [decide_eq_true_eq]
      rcases lt_trichotomy a b with h | h | h
      · exact Or.inr (Or.inr h)
      · exact Or.inr (Or.inl h)
      · exact Or.inl h)

/-- Putting a position in front of later ones, the order of equal entries by position is no different. -/
theorem insertBefore_desc (p : Fin 16 → EReal) (a : Fin 16) (l : List (Fin 16)) (h : ∀ b ∈ l, a < b) :
    insertBefore (desc p) a l = insertBefore (descPos p) a l := by
  induction l with
  | nil => rfl
  | cons b l ih =>
    have hb : a < b := h b (List.mem_cons_self ..)
    have e : desc p b a = descPos p b a := by
      unfold desc descPos
      rw [decide_eq_false (not_lt.mpr hb.le), Bool.and_false, Bool.or_false]
    unfold insertBefore
    rw [e, ih fun c hc => h c (List.mem_cons_of_mem b hc)]

/-- A list of positions in increasing order is sorted alike by both orders: the sort is stable. -/
theorem stableSort_desc (p : Fin 16 → EReal) (l : List (Fin 16)) (h : l.Pairwise (· < ·)) :
    stableSort (desc p) l = stableSort (descPos p) l := by
  induction l with
  | nil => rfl
  | cons a l ih =>
    obtain ⟨ha, hl⟩ := List.pairwise_cons.mp h
    unfold stableSort
    rw [ih hl]
    exact insertBefore_desc p a _ fun b hb => ha b ((perm_stableSort _ l).mem_iff.mp hb)

/-- Comparators that sort the positions alike have the same sorted positions. -/
theorem sortedFrom_congr {n : Nat} (B B' : Fin n → Fin n → Bool) (e : sortPositions n B = sortPositions n B') (k : Fin n) :
    sortedFrom B k = sortedFrom B' k := by
  unfold sortedFrom
  rw [List.get_eq_getElem, List.get_eq_getElem]
  exact List.getElem_of_eq e _

theorem sortedFrom_desc (p : Fin 16 → EReal) (k : Fin 16) : sortedFrom (desc p) k = sortedFrom (descPos p) k := by
  refine sortedFrom_congr _ _ ?_ k
  unfold sortPositions
  exact stableSort_desc p _ (List.pairwise_lt_finRange 16)

/-- The first two positions of the stable descending sort are the row's first greatest place and the next one. -/
theorem sortedFrom_top2 (p : Fin 16 → EReal) (a b : Fin 16) (h1 : IsTop1 p a) (h2 : IsTop2 p a b) :
    sortedFrom (desc p) 0 = a ∧ sortedFrom (desc p) 1 = b := by
  have key : ∀ i : Fin 2, sortedFrom (descPos p) (i.castLE (by decide)) = (![a, b] : Fin 2 → Fin 16) i := by
    intro i
    have first : ∀ j, j ≠ a → descPos p j a = false := fun j hj => by
      unfold descPos
      rw [decide_eq_false (not_lt.mpr (h1 j).1), Bool.false_or, Bool.and_eq_false_iff]
      by_cases e : p j = p a
      · exact Or.inr (decide_eq_false (not_lt.mpr ((h1 j).2 e)))
      · exact Or.inl (decide_eq_false e)
    have second : ∀ j, j ≠ a → descPos p j b = false := fun j hj => by
      unfold descPos
      rw [decide_eq_false (not_lt.mpr (h2.2 j hj).1), Bool.false_or, Bool.and_eq_false_iff]
      by_cases e : p j = p b
      · exact Or.inr (decide_eq_false (not_lt.mpr ((h2.2 j hj).2 e)))
      · exact Or.inl (decide_eq_false e)
    refine (descPos_strict p).sortedFrom_eq_of_prefix (by decide) ![a, b] ?_ ?_ ?_ i
    · intro i j hij
      fin_cases i <;> fin_cases j <;> simp_all [h2.1, h2.1.symm]
    · intro i j hij
      fin_cases i <;> fin_cases j <;> first | exact absurd hij (by decide) | exact first b h2.1
    · intro i q hq
      have hqa : q ≠ a := fun e => hq 0 e.symm
      fin_cases i
      · exact first q hqa
      · exact second q hqa
  rw [sortedFrom_desc, sortedFrom_desc]
  exact ⟨key 0, key 1⟩

end Cert.Proof

end
-- ==== Proof.Block.lean ====
/- What one grid point's blocks compute, read row by row: the logits, the softmax row, the two rounds of maximum and least
   index, the normalised pair, and the column sums the point adds to the carried row. -/
module

public import proofs.«01_k».proof.Proof.Row
public import proofs.«01_k».proof.Proof.Gen.KernelIdeal.Skeleton
public import Idealize.ShloMosaic.Lib.Pointwise

@[expose] public section

set_option maxRecDepth 16384

noncomputable section

namespace Cert.Proof

open Idealize.ShloMosaic Cert.KernelIdeal Cert.KernelIdeal.Gen

/-- The word the maxima start from, and the removed entry is replaced by, denotes −∞. -/
theorem negInf_word : Ideal.ofBits FTy.f32 4286578688#32 = ⊥ := by
  simp [Ideal.ofBits, Ideal.ieee]

/-- The word of the number of rows. -/
theorem rows_word : Ideal.ofBits FTy.f32 1174405120#32 = ((8192 : ℝ) : EReal) := by
  simp [Ideal.ofBits, Ideal.ieee, -EReal.coe_mul]
  norm_num

/-- A select on a comparison of words is an `if`. -/
theorem select_eq {α : Type} (u v : BitVec 32) (y z : α) :
    Scalar.select (IntOp.cmpi .eq u v) y z = if u = v then y else z := by
  by_cases h : u = v
  · subst h; simp [Scalar.select, IntOp.cmpi]
  · have e : (u == v) = false := beq_false_of_ne h
    simp [Scalar.select, IntOp.cmpi, h, e]

/-- The block that holds each entry's column number. -/
def columnNumbers : IVec S1024x16 32 := iota .tc S1024x16 32 [1] iota_S1024x16_d1_w32

section Rows
variable (x : Vec Ideal S1024x2048 .f32) (w : Vec Ideal S2048x16 .f32) (r : Fin 1024)

/-- A block row's logits: the row's products with the weights' columns. -/
def blockLogits : Fin 16 → EReal := fun j => ∑ k : Fin 2048, x (ix2 r k) * w (ix2 k j)

/-- A block row's probabilities. -/
def blockProbs : Fin 16 → EReal := softmax (blockLogits x w r)

theorem pay2_apply (j : Fin 16) : k0_pay2 (F := Ideal) x w (ix2 r j) = blockLogits x w r j := by
  unfold k0_pay2 blockLogits
  pointwise

theorem pay3_apply (j : Fin 16) : k0_pay3 (F := Ideal) x w (ix2 r j) = blockProbs x w r j := by
  unfold k0_pay3
  pointwise
  simp only [pay2_apply, negInf_word]
  rfl

theorem pay4_apply : k0_pay4 (F := Ideal) x w (ix2 r 0) = rowMax (blockProbs x w r) := by
  unfold k0_pay4
  pointwise
  simp only [pay3_apply, negInf_word]
  rfl

theorem pay5_apply : k0_pay5 (F := Ideal) x w (ix2 r 0) = idx1 (blockProbs x w r) := by
  unfold k0_pay5
  pointwise
  simp only [pay3_apply, pay4_apply]
  rfl

theorem pay6_apply (j : Fin 16) :
    k0_pay6 (F := Ideal) x w (ix2 r j) = without (blockProbs x w r) (idx1 (blockProbs x w r)) j := by
  unfold k0_pay6
  pointwise
  simp only [pay3_apply, pay5_apply, negInf_word, select_eq]
  rfl

theorem pay7_apply : k0_pay7 (F := Ideal) x w (ix2 r 0) = max2 (blockProbs x w r) := by
  unfold k0_pay7
  pointwise
  simp only [pay6_apply, negInf_word]
  rfl

theorem pay8_apply : k0_pay8 (F := Ideal) x w (ix2 r 0) = idx2 (blockProbs x w r) := by
  unfold k0_pay8
  pointwise
  simp only [pay6_apply, pay7_apply]
  rfl

theorem pay9_apply :
    k0_pay9 (F := Ideal) x w (ix2 r 0) = rowMax (blockProbs x w r) + max2 (blockProbs x w r) := by
  unfold k0_pay9
  pointwise
  simp only [pay4_apply, pay7_apply]

theorem pay10_apply : k0_pay10 (F := Ideal) x w (ix2 r 0) = share1 (blockProbs x w r) := by
  unfold k0_pay10
  pointwise
  simp only [pay4_apply, pay9_apply]
  rfl

theorem pay11_apply : k0_pay11 (F := Ideal) (k0_pay7 x w) (k0_pay9 x w) (ix2 r 0) = share2 (blockProbs x w r) := by
  unfold k0_pay11
  pointwise
  simp only [pay7_apply, pay9_apply]
  rfl

/-- The dispatch block, row by row. -/
theorem pay12_apply (j : Fin 16) :
    k0_pay12 (F := Ideal) columnNumbers (k0_pay5 x w) (k0_pay7 x w) (k0_pay8 x w)
      (k0_pay9 x w) (k0_pay10 x w) (ix2 r j) = dispatch (blockProbs x w r) j := by
  unfold k0_pay12 columnNumbers
  pointwise
  simp only [pay5_apply, pay8_apply, pay10_apply, pay11_apply, select_eq]
  rfl

/-- The block of the two indices, row by row. -/
theorem pay13_apply (k : Fin 2) :
    k0_pay13 (k0_pay5 (F := Ideal) x w) (k0_pay8 (F := Ideal) x w) (ix2 r k) = topIdx (blockProbs x w r) k := by
  unfold k0_pay13
  pointwise
  simp only [pay5_apply, pay8_apply, select_eq]
  fin_cases k <;> rfl

/-- The block of the two shares, row by row. -/
theorem pay14_apply (k : Fin 2) :
    k0_pay14 (F := Ideal) (k0_pay7 x w) (k0_pay9 x w) (k0_pay10 x w) (ix2 r k) = topShare (blockProbs x w r) k := by
  unfold k0_pay14
  pointwise
  simp only [pay10_apply, pay11_apply, select_eq]
  fin_cases k <;> rfl
end Rows

/-- The carried row after a point: what it was, plus the block's column sums. -/
theorem pay17_apply (x : Vec Ideal S1024x2048 .f32) (w : Vec Ideal S2048x16 .f32) (v : Vec Ideal S1x16 .f32) (j : Fin 16) :
    k0_pay17 (F := Ideal) (k0_pay3 x w) v (ix2 0 j) = v (ix2 0 j) + ∑ r : Fin 1024, blockProbs x w r j := by
  unfold k0_pay17
  pointwise
  simp only [pay3_apply]

/-- The last point's scalar: the sum of the squares of the carried row's entries over the number of rows. -/
theorem pay1_apply (v : Vec Ideal S1x16 .f32) :
    k0_pay1 (F := Ideal) v (ix2 0 0) = ∑ j : Fin 16, Ideal.div (v (ix2 0 j)) (8192 : ℝ) * Ideal.div (v (ix2 0 j)) (8192 : ℝ) := by
  unfold k0_pay1
  pointwise
  rw [rows_word]

theorem pay15_apply (j : Fin 16) : k0_pay15 (F := Ideal) (ix2 0 j) = 0 := by
  unfold k0_pay15
  pointwise

end Cert.Proof

end
-- ==== Proof.Point.lean ====
/- What the run of one grid point leaves in its output blocks and in the carried row, as the payloads of the blocks it
   reads: the same five blocks in every case, the carried row reset at the first point, the scalar set at the last. -/
module

public import proofs.«01_k».proof.Proof.Block
public import proofs.«01_k».proof.Proof.Gen.KernelIdeal.Frame
public import Idealize.ShloMosaic.Lib.Pipeline.Value
public import Idealize.ShloMosaic.Lib.Pipeline.ReadBack

@[expose] public section

set_option maxRecDepth 16384

noncomputable section

namespace Cert.Proof

open Idealize.ShloMosaic Idealize.ShloMosaic.TcCoe Cert.KernelIdeal Cert.KernelIdeal.Gen

variable {F : FTy → Type} [FloatOps F]

theorem offsets_zero : (![0, 0] : Fin 2 → Nat) = fun _ => 0 := funext fun a => by fin_cases a <;> rfl

/-- What a point leaves, in window order and then the carried row, given what it leaves in the scalar's block and in the
    carried row. -/
def pointLeaves (x : Vec F S1024x2048 .f32) (w : Vec F S2048x16 .f32) (aux : Vec F S1x1 .f32) (s : Vec F S1x16 .f32) :
    Vec F S1024x16 .f32 × Vec F S1024x16 .f32 × Vec F S1024x16 .f32 × Vec F S1x1 .f32 × Vec F S1024x2 .i32 × Vec F S1024x2 .f32 × Vec F S1x16 .f32 :=
  (k0_pay12 columnNumbers (k0_pay5 x w) (k0_pay7 x w) (k0_pay8 x w) (k0_pay9 x w) (k0_pay10 x w),
    k0_pay2 x w, k0_pay3 x w, aux, k0_pay13 (k0_pay5 x w) (k0_pay8 x w), k0_pay14 (k0_pay7 x w) (k0_pay9 x w) (k0_pay10 x w), s)

variable (m : (ℓ : Loc nD τ sig) → Buf (Elt F) ℓ) (c : Dev nD) (t : Fin cfg0.N)

/-- The first point: the carried row is the block's column sums onto zeros. -/
theorem outs_first (h0 : t.val % 8 = 0) (h1 : ¬t.val % 8 = 7) :
    outsAt0 m c t.val t.isLt
      = pointLeaves (iblk m c 0 t) (iblk m c 1 t) k0_pay16 (k0_pay17 (k0_pay3 (iblk m c 0 t) (iblk m c 1 t)) k0_pay15) := by
  rw [outsAt0_A m c t h0 h1]
  unfold out0_A_2 out0_A_3 out0_A_4 out0_A_5 out0_A_6 out0_A_7 sout0_A_0
  simp only [View.read_writes_junk_eq_canon]
  unfold kernelRun0_A
  dsimp only
  sl_unfold_words
  simp only [View.canon_cons_unit_zero (S := S1024x16) offsets_zero, View.canon_cons_unit_zero (S := S1024x2) offsets_zero,
    View.canon_cons_unit_zero (S := S1x1) offsets_zero, View.canon_cons_unit_zero (S := S1x16) offsets_zero,
    View.readCov_unit_zero (S := S1x16) _ offsets_zero, View.readAt_eq_ld,
    (hs0_0 t).read_unread, (hs0_1 t).read_unread, View.ld_unit_zero (S := S1024x2048) offsets_zero,
    View.ld_unit_zero (S := S2048x16) offsets_zero]
  rfl

/-- The last point: the column sums are added to the carried row, and the scalar computed from it. -/
theorem outs_last (h0 : ¬t.val % 8 = 0) (h1 : t.val % 8 = 7) :
    outsAt0 m c t.val t.isLt
      = pointLeaves (iblk m c 0 t) (iblk m c 1 t) (k0_pay1 (k0_pay17 (k0_pay3 (iblk m c 0 t) (iblk m c 1 t)) (outsAt0 m c (t.val - 1) (Nat.lt_of_le_of_lt (Nat.sub_le _ _) t.isLt)).2.2.2.2.2.2)) (k0_pay17 (k0_pay3 (iblk m c 0 t) (iblk m c 1 t)) (outsAt0 m c (t.val - 1) (Nat.lt_of_le_of_lt (Nat.sub_le _ _) t.isLt)).2.2.2.2.2.2) := by
  rw [outsAt0_C m c t h0 h1]
  unfold out0_C_2 out0_C_3 out0_C_4 out0_C_5 out0_C_6 out0_C_7 sout0_C_0
  simp only [View.read_writes_junk_eq_canon]
  unfold kernelRun0_C
  dsimp only
  sl_unfold_words
  simp only [View.canon_cons_unit_zero (S := S1024x16) offsets_zero, View.canon_cons_unit_zero (S := S1024x2) offsets_zero,
    View.canon_cons_unit_zero (S := S1x1) offsets_zero, View.canon_cons_unit_zero (S := S1x16) offsets_zero,
    View.readCov_unit_zero (S := S1x16) _ offsets_zero, View.readAt_eq_ld,
    View.ld_unit_zero (S := S1x16) offsets_zero, read_unread_whole,
    (hs0_0 t).read_unread, (hs0_1 t).read_unread, View.ld_unit_zero (S := S1024x2048) offsets_zero,
    View.ld_unit_zero (S := S2048x16) offsets_zero]
  rfl

/-- A point between: the column sums are added to the carried row, the scalar's block is untouched. -/
theorem outs_middle (h0 : ¬t.val % 8 = 0) (h1 : ¬t.val % 8 = 7) :
    outsAt0 m c t.val t.isLt
      = pointLeaves (iblk m c 0 t) (iblk m c 1 t) ((outsAt0 m c t.val t.isLt).2.2.2.1) (k0_pay17 (k0_pay3 (iblk m c 0 t) (iblk m c 1 t)) (outsAt0 m c (t.val - 1) (Nat.lt_of_le_of_lt (Nat.sub_le _ _) t.isLt)).2.2.2.2.2.2) := by
  rw [outsAt0_B m c t h0 h1]
  unfold out0_B_2 out0_B_3 out0_B_4 out0_B_6 out0_B_7 sout0_B_0
  simp only [View.read_writes_junk_eq_canon]
  unfold kernelRun0_B
  dsimp only
  sl_unfold_words
  simp only [View.canon_cons_unit_zero (S := S1024x16) offsets_zero, View.canon_cons_unit_zero (S := S1024x2) offsets_zero,
    View.canon_cons_unit_zero (S := S1x1) offsets_zero, View.canon_cons_unit_zero (S := S1x16) offsets_zero,
    View.readCov_unit_zero (S := S1x16) _ offsets_zero, View.readAt_eq_ld,
    View.ld_unit_zero (S := S1x16) offsets_zero, read_unread_whole,
    (hs0_0 t).read_unread, (hs0_1 t).read_unread, View.ld_unit_zero (S := S1024x2048) offsets_zero,
    View.ld_unit_zero (S := S2048x16) offsets_zero]
  rfl

end Cert.Proof

end
-- ==== Proof.Arrays.lean ====
/- What each array of the region holds after the run, index by index, in terms of the two arrays the region reads: row
   `n` of an output is what grid point `n / 1024` left in row `n % 1024` of its block. -/
module

public import proofs.«01_k».proof.Proof.Block
public import proofs.«01_k».proof.Proof.Point

@[expose] public section

set_option maxRecDepth 16384

noncomputable section

namespace Cert.Proof

open Idealize.ShloMosaic Idealize.ShloMosaic.TcCoe Cert.KernelIdeal Cert.KernelIdeal.Gen

/-- The row of the arrays that row `r` of point `t`'s block is. -/
def globalRow (t : Fin cfg0.N) (r : Fin 1024) : Fin 8192 :=
  ⟨t.val * 1024 + r.val, by have := t.isLt; have : cfg0.N = 8 := N_0; omega⟩

/-- The grid point whose blocks hold row `n`. -/
def pointOf (n : Fin 8192) : Fin cfg0.N := ⟨n.val / 1024, by have : cfg0.N = 8 := N_0; omega⟩

/-- The place of row `n` in that point's blocks. -/
def placeOf (n : Fin 8192) : Fin 1024 := ⟨n.val % 1024, Nat.mod_lt _ (by decide)⟩

theorem globalRow_of (n : Fin 8192) : globalRow (pointOf n) (placeOf n) = n :=
  Fin.ext (by show n.val / 1024 * 1024 + n.val % 1024 = n.val; omega)

theorem ix2_eta {a b : ℕ} (i : (⟨2, ![a, b]⟩ : Shape).Idx) : ix2 (i 0 : Fin a) (i 1 : Fin b) = i := by
  funext k; fin_cases k <;> rfl

/-- Logits of row `n`. -/
def logitsRow (X : Vec Ideal S8192x2048 .f32) (W : Vec Ideal S2048x16 .f32) (n : Fin 8192) : Fin 16 → EReal :=
  fun j => ∑ k : Fin 2048, X (ix2 n k) * W (ix2 k j)

/-- Probabilities of row `n`. -/
def probsRow (X : Vec Ideal S8192x2048 .f32) (W : Vec Ideal S2048x16 .f32) (n : Fin 8192) : Fin 16 → EReal :=
  softmax (logitsRow X W n)

/-- The scalar: the sum over the columns of the square of the column's mean probability. -/
def meanSquares (X : Vec Ideal S8192x2048 .f32) (W : Vec Ideal S2048x16 .f32) : EReal :=
  ∑ j : Fin 16, Ideal.div (∑ n : Fin 8192, probsRow X W n j) (8192 : ℝ) * Ideal.div (∑ n : Fin 8192, probsRow X W n j) (8192 : ℝ)

/-! ## Where a block lies in its array -/

/-- Every window over the rows is at block row `t`, block column 0; the weights' and the scalar's windows do not move. -/
theorem block_index : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- An index whose coordinates are those of row `r` of a block of `K` columns at block row `p`, block column `q = 0`. -/
theorem eq_ix2 {K p q : ℕ} (t : Fin cfg0.N) (r : Fin 1024) (k : Fin K) (i : (⟨2, ![8192, K]⟩ : Shape).Idx) (hp : p = t.val) (hq : q = 0)
    (h0 : (i 0).val = p * 1024 + 1 * r.val) (h1 : (i 1).val = q * K + 1 * k.val) : i = ix2 (globalRow t r) k := by
  subst hp hq
  funext a; apply Fin.ext
  match a with
  | ⟨0, _⟩ => show (i 0).val = t.val * 1024 + r.val; omega
  | ⟨1, _⟩ => show (i 1).val = k.val; omega

theorem emb0 (t : Fin cfg0.N) (r : Fin 1024) (k : Fin 2048) : ((cfg0.win 0).blk t).view.emb (ix2 r k) = ix2 (globalRow t r) k :=
  eq_ix2 t r k _ (block_index t).1.1 (block_index t).1.2 rfl rfl

theorem emb1 (t : Fin cfg0.N) (k : Fin 2048) (j : Fin 16) : ((cfg0.win 1).blk t).view.emb (ix2 k j) = ix2 k j := by
  obtain ⟨e0, e1⟩ := (block_index t).2.1
  funext a; apply Fin.ext
  match a with
  | ⟨0, _⟩ => show win0_1.index t (0 : Fin 2) * 2048 + 1 * k.val = k.val; omega
  | ⟨1, _⟩ => show win0_1.index t (1 : Fin 2) * 16 + 1 * j.val = j.val; omega

theorem emb2 (t : Fin cfg0.N) (r : Fin 1024) (j : Fin 16) : ((cfg0.win 2).blk t).view.emb (ix2 r j) = ix2 (globalRow t r) j :=
  eq_ix2 t r j _ (block_index t).2.2.1.1 (block_index t).2.2.1.2 rfl rfl
theorem emb3 (t : Fin cfg0.N) (r : Fin 1024) (j : Fin 16) : ((cfg0.win 3).blk t).view.emb (ix2 r j) = ix2 (globalRow t r) j :=
  eq_ix2 t r j _ (block_index t).2.2.2.1.1 (block_index t).2.2.2.1.2 rfl rfl
theorem emb4 (t : Fin cfg0.N) (r : Fin 1024) (j : Fin 16) : ((cfg0.win 4).blk t).view.emb (ix2 r j) = ix2 (globalRow t r) j :=
  eq_ix2 t r j _ (block_index t).2.2.2.2.1.1 (block_index t).2.2.2.2.1.2 rfl rfl
theorem emb6 (t : Fin cfg0.N) (r : Fin 1024) (k : Fin 2) : ((cfg0.win 6).blk t).view.emb (ix2 r k) = ix2 (globalRow t r) k :=
  eq_ix2 t r k _ (block_index t).2.2.2.2.2.1.1 (block_index t).2.2.2.2.2.1.2 rfl rfl
theorem emb7 (t : Fin cfg0.N) (r : Fin 1024) (k : Fin 2) : ((cfg0.win 7).blk t).view.emb (ix2 r k) = ix2 (globalRow t r) k :=
  eq_ix2 t r k _ (block_index t).2.2.2.2.2.2.1 (block_index t).2.2.2.2.2.2.2 rfl rfl

section Run
variable (m : (ℓ : Loc nD τ sig) → Buf (Elt Ideal) ℓ) (c : Dev nD)

/-- The activations as the region finds them. -/
abbrev X : Vec Ideal S8192x2048 .f32 := V m c main_v0
/-- The weights as the region finds them. -/
abbrev W : Vec Ideal S2048x16 .f32 := V m c main_v1

/-! ## The blocks a point reads, and what it leaves -/

theorem iblk0_apply (t : Fin cfg0.N) (r : Fin 1024) (k : Fin 2048) : iblk m c 0 t (ix2 r k) = X m c (ix2 (globalRow t r) k) := by
  show V m c main_v0 (((cfg0.win 0).blk t).view.emb (ix2 r k)) = _
  rw [emb0]

theorem iblk1_apply (t : Fin cfg0.N) (k : Fin 2048) (j : Fin 16) : iblk m c 1 t (ix2 k j) = W m c (ix2 k j) := by
  show V m c main_v1 (((cfg0.win 1).blk t).view.emb (ix2 k j)) = _
  rw [emb1]

/-- A block row's logits are those of the array's row. -/
theorem blockLogits_eq (t : Fin cfg0.N) (r : Fin 1024) :
    blockLogits (iblk m c 0 t) (iblk m c 1 t) r = logitsRow (X m c) (W m c) (globalRow t r) := by
  funext j
  exact Finset.sum_congr rfl fun k _ => congrArg₂ (· * ·) (iblk0_apply m c t r k) (iblk1_apply m c t k j)

/-- A block row's probabilities are those of the array's row. -/
theorem blockProbs_eq (t : Fin cfg0.N) (r : Fin 1024) :
    blockProbs (iblk m c 0 t) (iblk m c 1 t) r = probsRow (X m c) (W m c) (globalRow t r) :=
  congrArg softmax (blockLogits_eq m c t r)

/-- The first block a point leaves, row by row. -/
theorem leaves_dispatch (x : Vec Ideal S1024x2048 .f32) (w : Vec Ideal S2048x16 .f32) (aux : Vec Ideal S1x1 .f32) (s : Vec Ideal S1x16 .f32)
    (r : Fin 1024) (j : Fin 16) : (pointLeaves x w aux s).1 (ix2 r j) = dispatch (blockProbs x w r) j := by
  unfold pointLeaves
  dsimp only
  rw [pay12_apply x w r j]

/-- Every point leaves the same five blocks, whatever its case. -/
theorem outs_blocks (t : Fin cfg0.N) : ∃ aux s,
    outsAt0 m c t.val t.isLt = pointLeaves (iblk m c 0 t) (iblk m c 1 t) aux s := by
  by_cases h0 : t.val % 8 = 0
  · exact ⟨_, _, outs_first m c t h0 (by omega)⟩
  · by_cases h1 : t.val % 8 = 7
    · exact ⟨_, _, outs_last m c t h0 h1⟩
    · exact ⟨_, _, outs_middle m c t h0 h1⟩

/-- The carried row after point `n` holds the column sums of the probabilities over the rows up to that point's last. -/
theorem carried (j : Fin 16) : ∀ (n : ℕ) (hn : n < cfg0.N), (outsAt0 m c n hn).2.2.2.2.2.2 (ix2 0 j)
    = ∑ i ∈ Finset.range ((n + 1) * 1024), if h : i < 8192 then probsRow (X m c) (W m c) ⟨i, h⟩ j else 0 := by
  have hN : cfg0.N = 8 := N_0
  have hrow : ∀ (t : Fin cfg0.N), (∑ r : Fin 1024, blockProbs (iblk m c 0 t) (iblk m c 1 t) r j)
      = ∑ r ∈ Finset.range 1024, if h : t.val * 1024 + r < 8192 then probsRow (X m c) (W m c) ⟨t.val * 1024 + r, h⟩ j else 0 := by
    intro t
    rw [Finset.sum_range]
    refine Finset.sum_congr rfl fun r _ => ?_
    rw [blockProbs_eq]
    have h : t.val * 1024 + r.val < 8192 := (globalRow t r).isLt
    rw [dif_pos h]
    rfl
  intro n
  induction n with
  | zero =>
    intro hn
    rw [outs_first m c ⟨0, hn⟩ rfl (by simp)]
    show k0_pay17 (k0_pay3 _ _) k0_pay15 (ix2 0 j) = _
    rw [pay17_apply, pay15_apply, hrow, zero_add]
    simp only [Nat.zero_mul, Nat.zero_add, Nat.one_mul]
  | succ n ih =>
    intro hn
    have hs : ∃ aux, outsAt0 m c (n + 1) hn = pointLeaves (iblk m c 0 ⟨n + 1, hn⟩) (iblk m c 1 ⟨n + 1, hn⟩) aux
        (k0_pay17 (k0_pay3 (iblk m c 0 ⟨n + 1, hn⟩) (iblk m c 1 ⟨n + 1, hn⟩)) (outsAt0 m c n (Nat.lt_of_succ_lt hn)).2.2.2.2.2.2) := by
      by_cases h1 : (n + 1) % 8 = 7
      · exact ⟨_, outs_last m c ⟨n + 1, hn⟩ (by show ¬(n + 1) % 8 = 0; omega) h1⟩
      · exact ⟨_, outs_middle m c ⟨n + 1, hn⟩ (by show ¬(n + 1) % 8 = 0; omega) h1⟩
    obtain ⟨aux, hs⟩ := hs
    rw [hs]
    show k0_pay17 (k0_pay3 _ _) _ (ix2 0 j) = _
    rw [pay17_apply, ih, hrow, show (n + 1 + 1) * 1024 = (n + 1) * 1024 + 1024 by omega, Finset.sum_range_add]

/-- The scalar's block after the last point. -/
theorem scalar_last (t : Fin cfg0.N) (h1 : t.val % 8 = 7) :
    (outsAt0 m c t.val t.isLt).2.2.2.1 (ix2 0 0) = meanSquares (X m c) (W m c) := by
  have hN : cfg0.N = 8 := N_0
  have ht : t.val = 7 := by have := t.isLt; omega
  have e := outs_last m c t (by omega) h1
  have hc : ∀ j, k0_pay17 (k0_pay3 (iblk m c 0 t) (iblk m c 1 t))
      (outsAt0 m c (t.val - 1) (Nat.lt_of_le_of_lt (Nat.sub_le _ _) t.isLt)).2.2.2.2.2.2 (ix2 0 j)
      = ∑ n : Fin 8192, probsRow (X m c) (W m c) n j := by
    intro j
    have := carried m c j t.val t.isLt
    rw [e] at this
    refine Eq.trans this ?_
    rw [ht, Finset.sum_range]
    exact Finset.sum_congr rfl fun n _ => dif_pos n.isLt
  rw [e]
  show k0_pay1 _ (ix2 0 0) = _
  rw [pay1_apply]
  simp only [hc]
  rfl

/-! ## The arrays -/

/-- The array holds `G` if what each writing point left is `G`'s block and the blocks reach every index. -/
theorem array_eq (w : Fin cfg0.W) (G : Buf (Elt Ideal) ((c : Thread nD τ).loc (Pipeline.arrRef spec0 w)))
    (hG : ∀ t, (cfg0.win w).flush t = true → (dats m 0 c).flushed w t = ((cfg0.win w).blk t).view.read (Elt Ideal) G)
    (hc : ∀ i : (cfg0.win w).arr.view.ty.Idx, ∃ t y, (cfg0.win w).flush t = true ∧ ((cfg0.win w).blk t).view.emb y = i) :
    (dats m 0 c).arrAt w cfg0.N = G :=
  (dats m 0 c).arrAt_eq_of_cover w G hG fun i => by
    obtain ⟨t, y, hf, rfl⟩ := hc i
    exact ⟨t, hf, View.emb_mem_set _ y⟩

/-- Two functions on a block of 1024 rows agree if they agree at every row and column. -/
theorem rows_ext {K : ℕ} {α : Type} {f g : (⟨2, ![1024, K]⟩ : Shape).Idx → α} (h : ∀ r k, f (ix2 r k) = g (ix2 r k)) : f = g :=
  funext fun y => by rw [← ix2_eta y]; exact h _ _

/-- The place of row `n`, column `k` in its point's block is where the block puts that row and column. -/
theorem place_eq {K : ℕ} (i : (⟨2, ![8192, K]⟩ : Shape).Idx) : ix2 (globalRow (pointOf (i 0)) (placeOf (i 0))) (i 1 : Fin K) = i :=
  (congrArg (ix2 · (i 1 : Fin K)) (globalRow_of (i 0))).trans (ix2_eta i)

attribute [local irreducible] dispatch topIdx topShare probsRow logitsRow

/-- The dispatch array. -/
theorem array2 : (dats m 0 c).arrAt 2 cfg0.N = fun i : S8192x16.Idx => dispatch (probsRow (X m c) (W m c) (i 0)) (i 1) := by
  refine array_eq m c 2 _ (fun t _ => ?_) fun i =>
    ⟨pointOf (i 0), ix2 (placeOf (i 0)) (i 1), flush0_2 _, (emb2 _ _ _).trans (place_eq i)⟩
  obtain ⟨aux, s, e⟩ := outs_blocks m c t
  show (cfg0.win 2).cut (grid0.coords t) ((dats m 0 c).after 2 t) = _
  have key := leaves_dispatch (iblk m c 0 t) (iblk m c 1 t) aux s
  rw [← e] at key
  rw [after0_2]
  generalize (outsAt0 m c t.val t.isLt).1 = B at key ⊢
  refine rows_ext fun r k => (key r k).trans ?_
  rw [blockProbs_eq]
  exact (congrArg (fun i : S8192x16.Idx => dispatch (probsRow (X m c) (W m c) (i 0)) (i 1)) (emb2 t r k)).symm

/-- The logits' array. -/
theorem array3 : (dats m 0 c).arrAt 3 cfg0.N = fun i : S8192x16.Idx => logitsRow (X m c) (W m c) (i 0) (i 1) := by
  refine array_eq m c 3 _ (fun t _ => ?_) fun i =>
    ⟨pointOf (i 0), ix2 (placeOf (i 0)) (i 1), flush0_3 _, (emb3 _ _ _).trans (place_eq i)⟩
  obtain ⟨aux, s, e⟩ := outs_blocks m c t
  show (cfg0.win 3).cut (grid0.coords t) ((dats m 0 c).after 3 t) = _
  rw [after0_3, e]
  refine rows_ext fun r k => (pay2_apply (iblk m c 0 t) (iblk m c 1 t) r k).trans ?_
  rw [blockLogits_eq]
  exact (congrArg (fun i : S8192x16.Idx => logitsRow (X m c) (W m c) (i 0) (i 1)) (emb3 t r k)).symm

/-- The probabilities' array. -/
theorem array4 : (dats m 0 c).arrAt 4 cfg0.N = fun i : S8192x16.Idx => probsRow (X m c) (W m c) (i 0) (i 1) := by
  refine array_eq m c 4 _ (fun t _ => ?_) fun i =>
    ⟨pointOf (i 0), ix2 (placeOf (i 0)) (i 1), flush0_4 _, (emb4 _ _ _).trans (place_eq i)⟩
  obtain ⟨aux, s, e⟩ := outs_blocks m c t
  show (cfg0.win 4).cut (grid0.coords t) ((dats m 0 c).after 4 t) = _
  rw [after0_4, e]
  refine rows_ext fun r k => (pay3_apply (iblk m c 0 t) (iblk m c 1 t) r k).trans ?_
  rw [blockProbs_eq]
  exact (congrArg (fun i : S8192x16.Idx => probsRow (X m c) (W m c) (i 0) (i 1)) (emb4 t r k)).symm

/-- The array of the two largest entries' indices. -/
theorem array6 : (dats m 0 c).arrAt 6 cfg0.N = fun i : S8192x2.Idx => topIdx (probsRow (X m c) (W m c) (i 0)) (i 1) := by
  refine array_eq m c 6 _ (fun t _ => ?_) fun i =>
    ⟨pointOf (i 0), ix2 (placeOf (i 0)) (i 1), flush0_6 _, (emb6 _ _ _).trans (place_eq i)⟩
  obtain ⟨aux, s, e⟩ := outs_blocks m c t
  show (cfg0.win 6).cut (grid0.coords t) ((dats m 0 c).after 6 t) = _
  rw [after0_6, e]
  refine rows_ext fun r k => (pay13_apply (iblk m c 0 t) (iblk m c 1 t) r k).trans ?_
  rw [blockProbs_eq]
  exact (congrArg (fun i : S8192x2.Idx => topIdx (probsRow (X m c) (W m c) (i 0)) (i 1)) (emb6 t r k)).symm

/-- The array of the two largest entries' shares. -/
theorem array7 : (dats m 0 c).arrAt 7 cfg0.N = fun i : S8192x2.Idx => topShare (probsRow (X m c) (W m c) (i 0)) (i 1) := by
  refine array_eq m c 7 _ (fun t _ => ?_) fun i =>
    ⟨pointOf (i 0), ix2 (placeOf (i 0)) (i 1), flush0_7 _, (emb7 _ _ _).trans (place_eq i)⟩
  obtain ⟨aux, s, e⟩ := outs_blocks m c t
  show (cfg0.win 7).cut (grid0.coords t) ((dats m 0 c).after 7 t) = _
  rw [after0_7, e]
  refine rows_ext fun r k => (pay14_apply (iblk m c 0 t) (iblk m c 1 t) r k).trans ?_
  rw [blockProbs_eq]
  exact (congrArg (fun i : S8192x2.Idx => topShare (probsRow (X m c) (W m c) (i 0)) (i 1)) (emb7 t r k)).symm

/-- The scalar's one index. -/
theorem idx_one (i j : S1x1.Idx) : i = j := by
  funext a
  match a with
  | ⟨0, _⟩ => exact Subsingleton.elim (α := Fin 1) _ _
  | ⟨1, _⟩ => exact Subsingleton.elim (α := Fin 1) _ _

/-- The scalar's array, written back once, at the last point. -/
theorem array5 : (dats m 0 c).arrAt 5 cfg0.N = fun _ : S1x1.Idx => meanSquares (X m c) (W m c) := by
  have hN : cfg0.N = 8 := N_0
  refine array_eq m c 5 _ (fun t hf => ?_) fun i =>
    ⟨⟨7, lt_of_lt_of_eq (by decide) hN.symm⟩, ix2 (0 : Fin 1) (0 : Fin 1), (flush0_5 _).2 rfl, idx_one _ _⟩
  show (cfg0.win 5).cut (grid0.coords t) ((dats m 0 c).after 5 t) = _
  rw [after0_5]
  funext y
  refine (congrArg (outsAt0 m c t.val t.isLt).2.2.2.1 (idx_one _ (ix2 (0 : Fin 1) (0 : Fin 1)))).trans ?_
  exact scalar_last m c t ((flush0_5 t).1 hf)

end Run

end Cert.Proof

end
-- ==== Proof.Run.lean ====
/- The kernel's run over the exact reals: what every result holds at the end, as functions of the two arrays the region
   reads, and the arguments unchanged. -/
module

public import proofs.«01_k».proof.Proof.Arrays

@[expose] public section

set_option maxRecDepth 16384

noncomputable section

namespace Cert.Proof

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The line after the region: the scalar result is the one element of the scalar's array. -/
theorem tail_scalar (c : Dev nD) : Pipeline.afterTail₀ cfgs (dats m) 0 (V0 m) [hostOps1] c main_v3
    = fun _ : S_.Idx => meanSquares (X m c) (W m c) := by
  show StableHlo.after hostOps1 _ (Proc.devRef .tc main_v3) = _
  after_results
  erw [Pipeline.withArrays_arr spec0 launch0.win.arr_inj c (V0 m c) _ 5]
  erw [array5 m c]
  rfl

/-- The run, every result named. -/
theorem kernel_run : θ_run defs (onTc (τ := τ) (main (F := Ideal))) ⟨m, fun _ => 0, ρ⟩ fun r => ∀ c : Dev nD,
      r.2.mem ((c.tc : Thread nD τ).loc main_v2_0) = (fun i : S8192x16.Idx => dispatch (probsRow (X m c) (W m c) (i 0)) (i 1))
      ∧ r.2.mem ((c.tc : Thread nD τ).loc main_v2_1) = (fun i : S8192x16.Idx => logitsRow (X m c) (W m c) (i 0) (i 1))
      ∧ r.2.mem ((c.tc : Thread nD τ).loc main_v2_2) = (fun i : S8192x16.Idx => probsRow (X m c) (W m c) (i 0) (i 1))
      ∧ r.2.mem ((c.tc : Thread nD τ).loc main_v3) = (fun _ : S_.Idx => meanSquares (X m c) (W m c))
      ∧ r.2.mem ((c.tc : Thread nD τ).loc main_v2_4) = (fun i : S8192x2.Idx => topIdx (probsRow (X m c) (W m c) (i 0)) (i 1))
      ∧ r.2.mem ((c.tc : Thread nD τ).loc main_v2_5) = (fun i : S8192x2.Idx => topShare (probsRow (X m c) (W m c) (i 0)) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).1 2).trans (array2 m c), ((h c).1 3).trans (array3 m c), ((h c).1 4).trans (array4 m c),
      ((h c).2 main_v3 (Pipeline.mem_restRefs_of main_v3 (by decide) (by decide))).trans (tail_scalar m c),
      ((h c).1 6).trans (array6 m c), ((h c).1 7).trans (array7 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

/-- The activations the region finds: the first argument, its two leading axes merged. -/
theorem X_eq (c : Dev nD) : X m c = shapeCast S8192x2048 (m ((c.tc : Thread nD τ).loc main_arg0)) shapeCasts_S4x2048x2048_S8192x2048 := by
  show StableHlo.after hostOps0 _ (Proc.devRef .tc main_v0) = _
  after_results
  rfl

/-- The weights the region finds: the second argument transposed. -/
theorem W_eq (c : Dev nD) : W m c = transpose S2048x16 [1, 0] (m ((c.tc : Thread nD τ).loc main_arg1)) transposes_S16x2048_S2048x16_1_0 := by
  show StableHlo.after hostOps0 _ (Proc.devRef .tc main_v1) = _
  after_results

end Cert.Proof

end
-- ==== Proof.Reference.lean ====
/- The reference over the exact reals, index by index: its logits and probabilities are the row functions the kernel's
   are, and its two greatest entries of a row, and their places, come from the row's stable descending sort. -/
module

public import proofs.«01_k».proof.Proof.Arrays
public import proofs.«01_k».proof.Proof.Gen.ReferenceIdeal.Read
public import Idealize.ShloMosaic.Lib.Pointwise
public import Idealize.ShloMosaic.Lib.ScatterToDense.RefScatter

@[expose] public section

set_option maxRecDepth 16384

noncomputable section

namespace Cert.Proof.Reference

open Idealize.ShloMosaic Cert.ReferenceIdeal Cert.ReferenceIdeal.Gen Cert.ReferenceIdeal.Read Cert.Proof

attribute [local irreducible] sortedFrom

variable (x0 : (⟨S4x2048x2048, .f32⟩ : BufTy).Contents (Elt Ideal)) (x1 : (⟨S16x2048, .f32⟩ : BufTy).Contents (Elt Ideal))

/-- The reference's probabilities of row `n`. -/
abbrev probs (n : Fin 8192) : Fin 16 → EReal := probsRow (val_main_v0 (F := Ideal) x0) (val_main_v1 (F := Ideal) x1) n

/-- The reference's logits of row `n`. -/
abbrev logits (n : Fin 8192) : Fin 16 → EReal := logitsRow (val_main_v0 (F := Ideal) x0) (val_main_v1 (F := Ideal) x1) n

theorem logits_apply (i : S8192x16.Idx) : val_main_v2 (F := Ideal) x0 x1 i = logits x0 x1 (i 0) (i 1) := by
  rw [val_main_v2_apply]
  refine Finset.sum_congr rfl fun k _ => ?_
  have el : lidx_main_v2 i k = ix2 (i 0 : Fin 8192) k := funext fun a => by match a with | ⟨0, _⟩ => rfl | ⟨1, _⟩ => rfl
  have er : ridx_main_v2 i k = ix2 k (i 1 : Fin 16) := funext fun a => by match a with | ⟨0, _⟩ => rfl | ⟨1, _⟩ => rfl
  rw [el, er]
  rfl

/-- A row's maximum, the reference's reduction followed by its maximum with −∞. -/
theorem max_apply (i : S8192.Idx) : val_main_v5 (F := Ideal) x0 x1 i = rowMax (logits x0 x1 (i 0)) := by
  rw [val_main_v5_apply, val_main_v4_apply, val_main_cst_0_apply]
  have h3 : val_main_v3 (F := Ideal) x0 x1 i = rowMax (logits x0 x1 (i 0)) := by
    unfold val_main_v3
    show Host.reduce (max : EReal → EReal → EReal) _ _ _ _ i = _
    rw [Host.reduce_eq_fold, Shape.ReducesTo.fold_fiber_r2_a1, val_main_cst_apply]
    show Finset.fold max (Ideal.ofBits FTy.f32 4286578688#32) _ _ = _
    rw [negInf_word]
    exact congrArg (fun f => Finset.fold max ⊥ f Finset.univ) (funext fun k => logits_apply x0 x1 _)
  rw [h3]
  show max (Ideal.ofBits FTy.f32 4286578688#32) _ = _
  rw [negInf_word]
  exact max_eq_right bot_le

theorem exp_apply (i : S8192x16.Idx) : val_main_v9 (F := Ideal) x0 x1 i
    = Ideal.exp (logits x0 x1 (i 0) (i 1) - rowMax (logits x0 x1 (i 0))) := by
  rw [val_main_v9_apply, val_main_v8_apply, val_main_v7_apply, val_main_v6_apply, max_apply, logits_apply]
  rfl

theorem probs_apply (i : S8192x16.Idx) : val_main_v13 (F := Ideal) x0 x1 i = probs x0 x1 (i 0) (i 1) := by
  rw [val_main_v13_apply, val_main_v12_apply, val_main_v11_apply, val_main_v10_apply, val_main_cst_1_apply, exp_apply]
  simp only [exp_apply]
  show Ideal.div _ (Ideal.ofBits FTy.f32 0#32 + _) = _
  rw [Ideal.ofBits_zero_f32, zero_add]
  rfl

/-! ## The two greatest entries -/

/-- The place the reference's k-th greatest entry of row `n` stands at. -/
abbrev place (n : Fin 8192) (k : Fin 2) : Fin 16 := sortedFrom (desc (probs x0 x1 n)) (k.castLE (by decide))

/-- Where row and rank `i` of the sliced sort reads the array sorted. -/
abbrev inSorted (i : S8192x2.Idx) : S8192x16.Idx := ix2 (i 0 : Fin 8192) ((i 1 : Fin 2).castLE (by decide) : Fin 16)

/-- Along the second axis, the total order's "greater" on an array whose rows are `p`'s is `desc` of the row. -/
theorem before_eq (x : FVec Ideal S8192x16 .f32) (p : Fin 8192 → Fin 16 → EReal) (hx : ∀ i, x i = p (i 0) (i 1)) (i : S8192x16.Idx) :
    (fun k k' : Fin 16 => FloatOps.cmpfTotal (F := Ideal) (φ := .f32) .gt (x (i.along 1 k)) (x (i.along 1 k')) == 1#1) = desc (p (i 0)) := by
  funext k k'
  rw [hx, hx]
  show (BitVec.ofBool (decide (p (i 0) k' < p (i 0) k)) == 1#1) = decide _
  by_cases h : p (i 0) k' < p (i 0) k
  · rw [decide_eq_true h]; rfl
  · rw [decide_eq_false h]; rfl

/-- Both results of the top-2 of an array whose rows are `p`'s: the entry at the row's k-th place in descending order,
    and that place's number. -/
theorem top_two (x : FVec Ideal S8192x16 .f32) (p : Fin 8192 → Fin 16 → EReal) (hx : ∀ i, x i = p (i 0) (i 1))
    (h : S8192x16.Slices (fun _ => 0) S8192x2) (i : S8192x2.Idx) :
    (Host.topK S8192x2 1 (FloatOps.cmpfTotal (F := Ideal) (φ := .f32) .gt) x h).1 i
        = p (i 0) (sortedFrom (desc (p (i 0))) ((i 1 : Fin 2).castLE (by decide)))
      ∧ (Host.topK S8192x2 1 (FloatOps.cmpfTotal (F := Ideal) (φ := .f32) .gt) x h).2 i
        = BitVec.ofNat 32 (sortedFrom (desc (p (i 0))) ((i 1 : Fin 2).castLE (by decide))).val := by
  have hs : ∀ {α : Type} (z : S8192x16.Idx → α), extractStridedSlice S8192x2 (fun _ => 0) z h i = z (inSorted i) := fun z =>
    extractStridedSlice_apply _ _ _ i (inSorted i) (fun a => by
      match a with
      | ⟨0, _⟩ => exact (Nat.zero_add (i 0).val).symm
      | ⟨1, _⟩ => exact (Nat.zero_add (i 1).val).symm)
  have hd : (1 : ℕ) < S8192x16.rank := by decide
  unfold Host.topK
  dsimp only
  rw [hs, hs]
  unfold Host.sort2
  simp only [dif_pos hd]
  have hB := before_eq x p hx (inSorted i)
  constructor
  · rw [hx]
    show p (i 0) (sortedFrom (fun k k' : Fin 16 => FloatOps.cmpfTotal (F := Ideal) (φ := .f32) .gt (x ((inSorted i).along 1 k)) (x ((inSorted i).along 1 k')) == 1#1) ((i 1 : Fin 2).castLE (by decide))) = _
    exact congrArg (fun B : Fin 16 → Fin 16 → Bool => p (i 0) (sortedFrom B ((i 1 : Fin 2).castLE (by decide)))) hB
  · exact congrArg (fun B : Fin 16 → Fin 16 → Bool => BitVec.ofNat 32 (sortedFrom B ((i 1 : Fin 2).castLE (by decide))).val) hB

theorem values_apply (i : S8192x2.Idx) :
    val_main_values (F := Ideal) x0 x1 i = probs x0 x1 (i 0) (place x0 x1 (i 0) (i 1)) :=
  (top_two (val_main_v13 (F := Ideal) x0 x1) (probs x0 x1) (probs_apply x0 x1) _ i).1

theorem indices_apply (i : S8192x2.Idx) :
    val_main_indices (F := Ideal) x0 x1 i = BitVec.ofNat 32 (place x0 x1 (i 0) (i 1)).val :=
  (top_two (val_main_v13 (F := Ideal) x0 x1) (probs x0 x1) (probs_apply x0 x1) _ i).2

/-- The share of the k-th greatest entry. -/
theorem shares_apply (i : S8192x2.Idx) : val_main_v17 (F := Ideal) x0 x1 i
    = Ideal.div (probs x0 x1 (i 0) (place x0 x1 (i 0) (i 1)))
        (probs x0 x1 (i 0) (place x0 x1 (i 0) 0) + probs x0 x1 (i 0) (place x0 x1 (i 0) 1)) := by
  rw [val_main_v17_apply, val_main_v16_apply, val_main_v15_apply, val_main_v14_apply, val_main_cst_2_apply]
  simp only [values_apply]
  rw [Fin.sum_univ_two]
  show Ideal.div _ (Ideal.ofBits FTy.f32 0#32 + _) = _
  rw [Ideal.ofBits_zero_f32, zero_add]
  rfl

/-! ## The scatter -/

/-- The row numbers the scatter is handed. -/
theorem rows_apply (i : S8192x2x1.Idx) : val_main_v40 (F := Ideal) i = BitVec.ofNat 32 (i 0).val := by
  have h28 : ∀ j : S8192x2.Idx, val_main_v28 (F := Ideal) j = BitVec.ofNat 32 (j 0).val := fun j => by
    rw [val_main_v28_apply, val_main_v27_apply, val_main_v26_apply]
  rw [val_main_v40_apply, val_main_v34_apply, val_main_v31_apply, val_main_v30_apply, val_main_c_apply, h28]
  have hi : (i 0).val < 8192 := (i 0).isLt
  exact Routing.wrap_of_lt _ _ (by
    show (BitVec.ofNat 32 (i 0).val).toNat < _
    rw [BitVec.toNat_ofNat]; omega)

/-- The column numbers the scatter is handed. -/
theorem columns_apply (i : S8192x2x1.Idx) :
    val_main_v41 (F := Ideal) x0 x1 i = BitVec.ofNat 32 (place x0 x1 (i 0) (i 1)).val := by
  rw [val_main_v41_apply, val_main_v39_apply, val_main_v36_apply, val_main_v35_apply, val_main_c_10_apply, indices_apply]
  exact Routing.wrap_of_lt _ _ (by
    show (BitVec.ofNat 32 (place x0 x1 (i 0) (i 1)).val).toNat < _
    rw [BitVec.toNat_ofNat]
    have := (place x0 x1 (i 0) (i 1)).isLt
    omega)

/-- The index pair of update `(n, k)`: the row number, then the column number. -/
theorem pairs_row (n : Fin 8192) (k : Fin 2) : val_main_v42 (F := Ideal) x0 x1 (ValueIdx.ix3 n k (0 : Fin 2)) = BitVec.ofNat 32 n.val := by
  have h := concatenate_pair_apply_left (t := S8192x2x2) (s₁ := S8192x2x1) (s₂ := S8192x2x1) 2 (val_main_v40 (F := Ideal))
    (val_main_v41 (F := Ideal) x0 x1) concatenates_S8192x2x1_S8192x2x1_S8192x2x2_d2 (ValueIdx.ix3 n k (0 : Fin 2)) rfl (ValueIdx.ix3 n k (0 : Fin 1))
    (fun b => by match b with | ⟨0, _⟩ => rfl | ⟨1, _⟩ => rfl | ⟨2, _⟩ => rfl)
  exact h.trans (rows_apply _)

theorem pairs_column (n : Fin 8192) (k : Fin 2) :
    val_main_v42 (F := Ideal) x0 x1 (ValueIdx.ix3 n k (1 : Fin 2)) = BitVec.ofNat 32 (place x0 x1 n k).val := by
  have h := concatenate_pair_apply_right (t := S8192x2x2) (s₁ := S8192x2x1) (s₂ := S8192x2x1) 2 (val_main_v40 (F := Ideal))
    (val_main_v41 (F := Ideal) x0 x1) concatenates_S8192x2x1_S8192x2x1_S8192x2x2_d2 (ValueIdx.ix3 n k (1 : Fin 2)) rfl rfl (ValueIdx.ix3 n k (0 : Fin 1))
    (fun b hb => by
      match b, hb with
      | ⟨0, _⟩, _ => rfl
      | ⟨1, _⟩, _ => rfl
      | ⟨2, _⟩, h => exact absurd rfl h) rfl
  exact h.trans (columns_apply x0 x1 _)

/-- The reference's dispatch entry: the second share at its place, else the first at its, else zero. -/
theorem dispatch_apply (i : S8192x16.Idx) : val_main_v43 (F := Ideal) x0 x1 i
    = if (i 1).val = (place x0 x1 (i 0) 1).val then val_main_v17 (F := Ideal) x0 x1 (ix2 (i 0 : Fin 8192) (1 : Fin 2))
      else if (i 1).val = (place x0 x1 (i 0) 0).val then val_main_v17 (F := Ideal) x0 x1 (ix2 (i 0 : Fin 8192) (0 : Fin 2))
      else 0 := by
  have hb : ∀ (n : Fin 8192) (k : Fin 2), (BitVec.ofNat 32 (place x0 x1 n k).val).toNat = (place x0 x1 n k).val := fun n k => by
    rw [BitVec.toNat_ofNat]
    have := (place x0 x1 n k).isLt
    omega
  unfold val_main_v43
  rw [ScatterToDense.scatter_eq_dense (by decide) scatter_S8192x16_S8192x2x2_S8192x2_n_01_01_2 rfl rfl rfl (by decide) (by decide)
    (val_main_v29 (F := Ideal)) (val_main_v42 (F := Ideal) x0 x1) (val_main_v17 (F := Ideal) x0 x1)
    (fun j : S8192x2.Idx => BitVec.ofNat 32 (place x0 x1 (j 0) (j 1)).val) (val_main_v17 (F := Ideal) x0 x1) (0 : EReal)
    (fun j => by
      rw [val_main_v29_apply, val_main_cst_8_apply]
      exact Ideal.ofBits_zero_f32)
    (fun n k => pairs_row x0 x1 n k)
    (fun n k c _ => by rw [pairs_column x0 x1 n k])
    (fun _ _ => rfl) i]
  show (if (i 1).val = (BitVec.ofNat 32 (place x0 x1 (i 0) 1).val).toNat then val_main_v17 (F := Ideal) x0 x1 (ix2 (i 0 : Fin 8192) (1 : Fin 2))
    else if (i 1).val = (BitVec.ofNat 32 (place x0 x1 (i 0) 0).val).toNat then val_main_v17 (F := Ideal) x0 x1 (ix2 (i 0 : Fin 8192) (0 : Fin 2))
    else 0) = _
  rw [hb (i 0) 1, hb (i 0) 0]

/-! ## The scalar -/

/-- The mean probability of a column. -/
theorem mean_apply (i : S16.Idx) : val_main_v20 (F := Ideal) x0 x1 i
    = Ideal.div (∑ n : Fin 8192, probs x0 x1 n (i 0)) (8192 : ℝ) := by
  rw [val_main_v20_apply, val_main_v18_apply, val_main_v19_apply, val_main_cst_3_apply, val_main_cst_4_apply]
  simp only [probs_apply]
  show Ideal.div (Ideal.ofBits FTy.f32 0#32 + _) (Ideal.ofBits FTy.f32 1174405120#32) = _
  rw [Ideal.ofBits_zero_f32, zero_add, rows_word]
  rfl

/-- The word of the number of columns. -/
theorem columns_word : Ideal.ofBits FTy.f32 1098907648#32 = ((16 : ℝ) : EReal) := by
  simp [Ideal.ofBits, Ideal.ieee, -EReal.coe_mul]
  norm_num

theorem scalar_apply (i : S_.Idx) : val_main_v25 (F := Ideal) x0 x1 i
    = Ideal.div (∑ j : Fin 16, ((16 : ℝ) : EReal) * Ideal.div (∑ n : Fin 8192, probs x0 x1 n j) (8192 : ℝ)
        * Ideal.div (∑ n : Fin 8192, probs x0 x1 n j) (8192 : ℝ)) (16 : ℝ) := by
  rw [val_main_v25_apply, val_main_v24_apply, val_main_cst_6_apply, val_main_cst_7_apply]
  simp only [val_main_v23_apply, val_main_v22_apply, val_main_v21_apply, val_main_cst_5_apply, mean_apply]
  show Ideal.div (Ideal.ofBits FTy.f32 0#32 + ∑ j : S16.Idx, Ideal.ofBits FTy.f32 1098907648#32 * _ * _) (Ideal.ofBits FTy.f32 1098907648#32) = _
  rw [Ideal.ofBits_zero_f32, zero_add, columns_word]
  exact congrArg (Ideal.div · _) (sum_idx1 _)

end Cert.Proof.Reference

end
-- ==== Proof.RealRow.lean ====
/- Rows of real numbers: the softmax of real logits is a row of positive real numbers; in such a row the two rounds of
   maximum and least index find the places a stable descending sort puts first. -/
module

public import proofs.«01_k».proof.Proof.Row

@[expose] public section

noncomputable section

namespace Cert.Proof

open Idealize.ShloMosaic

/-- An extended real that is a real number. -/
def IsReal (x : EReal) : Prop := ∃ r : ℝ, x = (r : EReal)

theorem IsReal.mul {x y : EReal} : IsReal x → IsReal y → IsReal (x * y) := by
  rintro ⟨r, rfl⟩ ⟨s, rfl⟩; exact ⟨r * s, (EReal.coe_mul r s).symm⟩

theorem coe_finset_sum {ι : Type*} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem IsReal.sum {ι : Type*} (s : Finset ι) {f : ι → EReal} (h : ∀ k, IsReal (f k)) : IsReal (∑ k ∈ s, f k) := by
  choose r hr using h
  exact ⟨∑ k ∈ s, r k, by rw [← coe_finset_sum]; exact Finset.sum_congr rfl fun k _ => hr k⟩

theorem IsReal.div {x : EReal} (h : IsReal x) {y : ℝ} (hy : y ≠ 0) : IsReal (Ideal.div x y) := by
  rw [Ideal.div_coe hy]; exact h.mul ⟨_, rfl⟩

/-- An extended real below +∞ in absolute value is a real number. -/
theorem isReal_of_abs_lt {x : EReal} (h : max x (-x) < ⊤) : IsReal x := by
  induction x with
  | bot => simp at h
  | coe r => exact ⟨r, rfl⟩
  | top => simp at h

/-- The softmax of real logits is a row of positive real numbers. -/
theorem softmax_pos (l : Fin 16 → EReal) (hl : ∀ j, IsReal (l j)) (j : Fin 16) : ∃ q : ℝ, 0 < q ∧ softmax l j = (q : EReal) := by
  obtain ⟨a, ha⟩ := exists_isTop1 l
  choose r hr using hl
  have he : ∀ k, Ideal.exp (l k - rowMax l) = ((Real.exp (r k - r a) : ℝ) : EReal) := fun k => by
    rw [rowMax_eq l a fun i => (ha i).1, hr k, hr a, ← EReal.coe_sub, Ideal.exp_coe]
  have hpos : 0 < ∑ k, Real.exp (r k - r a) := Finset.sum_pos (fun k _ => Real.exp_pos _) ⟨0, Finset.mem_univ _⟩
  refine ⟨Real.exp (r j - r a) * (1 / ∑ k, Real.exp (r k - r a)), by positivity, ?_⟩
  unfold softmax
  simp only [he]
  rw [coe_finset_sum, Ideal.div_coe hpos.ne', ← EReal.coe_mul]

section Top

variable (p : Fin 16 → EReal)

/-- The first two places of the row in descending order, equal entries by position. -/
def ranked (k : Fin 2) : Fin 16 := sortedFrom (desc p) (k.castLE (by decide))

variable (hp : ∀ j, ⊥ < p j)
include hp

/-- What the two rounds find is what stands at those places. -/
theorem rounds_eq : ranked p 1 ≠ ranked p 0 ∧ rowMax p = p (ranked p 0) ∧ idx1 p = BitVec.ofNat 32 (ranked p 0).val
    ∧ max2 p = p (ranked p 1) ∧ idx2 p = BitVec.ofNat 32 (ranked p 1).val := by
  obtain ⟨a, h1⟩ := exists_isTop1 p
  obtain ⟨b, h2⟩ := exists_isTop2 p a
  obtain ⟨ea, eb⟩ := sortedFrom_top2 p a b h1 h2
  have e0 : ranked p 0 = a := ea
  have e1 : ranked p 1 = b := eb
  have i1 : idx1 p = BitVec.ofNat 32 a.val := round1_idx p a h1
  have m2 : max2 p = p b := by unfold max2; rw [i1]; exact round2_max p a b h2
  rw [e0, e1]
  refine ⟨h2.1, round1_max p a h1, i1, m2, ?_⟩
  unfold idx2
  rw [i1, m2]
  exact round2_idx p a b h2 (hp b)

theorem topIdx_eq (k : Fin 2) : topIdx p k = BitVec.ofNat 32 (ranked p k).val := by
  obtain ⟨-, -, i1, -, i2⟩ := rounds_eq p hp
  unfold topIdx
  match k with
  | ⟨0, _⟩ => exact i1
  | ⟨1, _⟩ => exact i2

theorem topShare_eq (k : Fin 2) : topShare p k = Ideal.div (p (ranked p k)) (p (ranked p 0) + p (ranked p 1)) := by
  obtain ⟨-, m1, -, m2, -⟩ := rounds_eq p hp
  unfold topShare share1 share2
  rw [m1, m2]
  match k with
  | ⟨0, _⟩ => rfl
  | ⟨1, _⟩ => rfl

/-- The dispatch row with the second place asked for first: the two places differ, so the order does not matter. -/
theorem dispatch_eq (j : Fin 16) : dispatch p j
    = if j.val = (ranked p 1).val then topShare p 1 else if j.val = (ranked p 0).val then topShare p 0 else 0 := by
  obtain ⟨hne, -, i1, -, i2⟩ := rounds_eq p hp
  have h : ∀ b : Fin 16, (BitVec.ofNat 32 j.val = BitVec.ofNat 32 b.val) = (j = b) := fun b => propext ((ofNat_inj j b))
  unfold dispatch
  simp only [i1, i2, h, ← Fin.ext_iff]
  show _ = if j = ranked p 1 then share2 p else if j = ranked p 0 then share1 p else 0
  by_cases h0 : j = ranked p 0
  · rw [if_pos h0, if_neg (fun h1 => hne (h1.symm.trans h0)), if_pos h0]
  · rw [if_neg h0, if_neg h0]

end Top

/-- Sixteen times the squares of real numbers, summed and divided by sixteen. -/
theorem mean_of_squares (u : Fin 16 → EReal) (hu : ∀ j, IsReal (u j)) :
    Ideal.div (∑ j, ((16 : ℝ) : EReal) * u j * u j) (16 : ℝ) = ∑ j, u j * u j := by
  choose r hr using hu
  simp only [hr, ← EReal.coe_mul, coe_finset_sum]
  rw [Ideal.div_coe (by norm_num), ← EReal.coe_mul]
  congr 1
  simp only [mul_assoc]
  rw [← Finset.mul_sum]
  ring

end Cert.Proof

end
-- ==== Proof.Equation.lean ====
/- The equation: over arguments that are real numbers the reference's results are the row functions the kernel's are. -/
module

public import proofs.«01_k».proof.Proof.Reference
public import proofs.«01_k».proof.Proof.RealRow
public import proofs.«01_k».proof.Proof.Gen.Pre_finite
public import Idealize.ShloMosaic.Lib.ReduceAll

@[expose] public section

set_option maxRecDepth 16384

noncomputable section

namespace Cert.Proof.Equation

open Idealize.ShloMosaic Cert.ReferenceIdeal Cert.ReferenceIdeal.Gen Cert.ReferenceIdeal.Read Cert.Proof Cert.Proof.Reference

variable (x0 : (⟨S4x2048x2048, .f32⟩ : BufTy).Contents (Elt Ideal)) (x1 : (⟨S16x2048, .f32⟩ : BufTy).Contents (Elt Ideal))

/-! ## The precondition -/

/-- The word the precondition compares with denotes +∞. -/
theorem inf_word : Ideal.ofBits FTy.f32 2139095040#32 = ⊤ := by
  simp [Ideal.ofBits, Ideal.ieee]

/-- One element whose absolute value compares below +∞ is a real number. -/
theorem isReal_of_cmp {x : EReal} (h : FloatOps.cmpf (F := Ideal) (φ := .f32) .olt (FloatOps.hostAbsf (F := Ideal) (φ := .f32) x)
    (FloatOps.ofBits (F := Ideal) .f32 2139095040#32) = 1#1) : IsReal x := by
  refine isReal_of_abs_lt ?_
  have h' : BitVec.ofBool (decide (max x (-x) < Ideal.ofBits FTy.f32 2139095040#32)) = 1#1 := h
  rw [inf_word] at h'
  by_contra hn
  rw [decide_eq_false hn] at h'
  exact absurd h' (by decide)

/-- The precondition says that every element of both arguments is a real number. -/
theorem isReal_of_pre (h : Cert.Pre_finite.fn (F := Ideal) x0 x1 = fun _ => 1#1) :
    (∀ i, IsReal (x0 i)) ∧ ∀ i, IsReal (x1 i) := by
  have : Subsingleton Cert.Pre_finite.S_.Idx := ⟨fun a b => funext fun k => k.elim0⟩
  have h0 := congrFun h (fun k : Fin 0 => k.elim0)
  unfold Cert.Pre_finite.fn at h0
  dsimp only at h0
  obtain ⟨ha, hb⟩ := IntOp.andi_eq_one.mp h0
  exact ⟨fun i => isReal_of_cmp (Host.reduce_andi_all _ _ _ _ _ ha i), fun i => isReal_of_cmp (Host.reduce_andi_all _ _ _ _ _ hb i)⟩

/-! ## The rows -/

section Real

variable (hx : ∀ i, IsReal (x0 i)) (hw : ∀ i, IsReal (x1 i))
include hx hw

theorem logits_real (n : Fin 8192) (j : Fin 16) : IsReal (logits x0 x1 n j) :=
  IsReal.sum _ fun k => by
    rw [val_main_v0_apply, val_main_v1_apply]
    exact (hx _).mul (hw _)

theorem probs_real (n : Fin 8192) (j : Fin 16) : IsReal (probs x0 x1 n j) := by
  obtain ⟨q, -, h⟩ := softmax_pos (logits x0 x1 n) (logits_real x0 x1 hx hw n) j
  exact ⟨q, h⟩

theorem bot_lt_probs (n : Fin 8192) (j : Fin 16) : ⊥ < probs x0 x1 n j := by
  obtain ⟨q, h⟩ := probs_real x0 x1 hx hw n j
  rw [h]
  exact EReal.bot_lt_coe q

/-! ## The results -/

theorem indices_eq : val_main_indices (F := Ideal) x0 x1 = fun i => topIdx (probs x0 x1 (i 0)) (i 1) :=
  funext fun i => (indices_apply x0 x1 i).trans (topIdx_eq _ (bot_lt_probs x0 x1 hx hw (i 0)) (i 1)).symm

theorem shares_eq : val_main_v17 (F := Ideal) x0 x1 = fun i => topShare (probs x0 x1 (i 0)) (i 1) :=
  funext fun i => (shares_apply x0 x1 i).trans (topShare_eq _ (bot_lt_probs x0 x1 hx hw (i 0)) (i 1)).symm

theorem dispatch_eq : val_main_v43 (F := Ideal) x0 x1 = fun i => dispatch (probs x0 x1 (i 0)) (i 1) := by
  funext i
  refine (dispatch_apply x0 x1 i).trans (Eq.trans ?_ (Cert.Proof.dispatch_eq _ (bot_lt_probs x0 x1 hx hw (i 0)) (i 1)).symm)
  rw [shares_eq x0 x1 hx hw]
  rfl

theorem scalar_eq : val_main_v25 (F := Ideal) x0 x1
    = fun _ => meanSquares (val_main_v0 (F := Ideal) x0) (val_main_v1 (F := Ideal) x1) := by
  funext i
  exact (scalar_apply x0 x1 i).trans (mean_of_squares (fun j => Ideal.div (∑ n : Fin 8192, probs x0 x1 n j) (8192 : ℝ)) fun j =>
    (IsReal.sum _ fun n => probs_real x0 x1 hx hw n j).div (by norm_num))

end Real

theorem logits_eq : val_main_v2 (F := Ideal) x0 x1 = fun i => logits x0 x1 (i 0) (i 1) := funext (logits_apply x0 x1)

theorem probs_eq : val_main_v13 (F := Ideal) x0 x1 = fun i => probs x0 x1 (i 0) (i 1) := funext (probs_apply x0 x1)

end Cert.Proof.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

attribute [local irreducible] dispatch topIdx topShare probsRow logitsRow meanSquares

/-- The reference's frame: its run leaves the arguments, and a program without semaphores has no counter to leave up. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => (h c).2.2.2.2.2.2.2, sem_eq_zero_of_no_sems rfl r.2⟩) (Cert.ReferenceIdeal.Value.run (F := Ideal) m g)

open Cert.ReferenceIdeal.Read in
/-- The kernel and the reference, over the exact reals, from equal arguments that are real numbers, end with equal results. -/
theorem equal_results : Cert.algebraic_KernelIdeal_ReferenceIdeal_pre_finite := by
  intro m g m' g' hpre hargs
  have hreal := fun c => Equation.isReal_of_pre _ _ (hpre c)
  refine ⟨fun c => (fun i : Cert.KernelIdeal.S8192x16.Idx => dispatch (probsRow (X m c) (W m c) (i 0)) (i 1)),
    fun c => (fun i : Cert.KernelIdeal.S8192x16.Idx => dispatch (probsRow (X m c) (W m c) (i 0)) (i 1)),
    fun c => (fun i : Cert.KernelIdeal.S8192x16.Idx => logitsRow (X m c) (W m c) (i 0) (i 1)),
    fun c => (fun i : Cert.KernelIdeal.S8192x16.Idx => probsRow (X m c) (W m c) (i 0) (i 1)),
    fun c => (fun _ : Cert.KernelIdeal.S_.Idx => meanSquares (X m c) (W m c)),
    fun c => (fun i : Cert.KernelIdeal.S8192x2.Idx => topIdx (probsRow (X m c) (W m c) (i 0)) (i 1)),
    fun c => (fun i : Cert.KernelIdeal.S8192x2.Idx => topShare (probsRow (X m c) (W m c) (i 0)) (i 1)),
    (θ_run Cert.KernelIdeal.defs _ _).mono (fun r h c => ⟨(h c).1, h c⟩) (kernel_run m g), (θ_run Cert.ReferenceIdeal.defs _ _).mono (fun r h c => ?_) (Cert.ReferenceIdeal.Value.run (F := Ideal) m' g')⟩
  obtain ⟨e0, e1, e2, e3, e4, e5, e6, ea, eb⟩ := h c
  obtain ⟨ha, hb⟩ := hargs c
  have hread : ∀ {α : Type} (f : Vec Ideal Cert.KernelIdeal.S8192x2048 .f32 → Vec Ideal Cert.KernelIdeal.S2048x16 .f32 → α),
      f (val_main_v0 (F := Ideal) (m' ((c.tc : Thread Cert.ReferenceIdeal.nD Cert.ReferenceIdeal.τ).loc Cert.ReferenceIdeal.main_arg0)))
        (val_main_v1 (F := Ideal) (m' ((c.tc : Thread Cert.ReferenceIdeal.nD Cert.ReferenceIdeal.τ).loc Cert.ReferenceIdeal.main_arg1)))
        = f (X m c) (W m c) := fun f => by
    rw [ha, hb, X_eq m c, W_eq m c]; rfl
  obtain ⟨hx, hw⟩ : (∀ i, IsReal (m' ((c.tc : Thread Cert.ReferenceIdeal.nD Cert.ReferenceIdeal.τ).loc Cert.ReferenceIdeal.main_arg0) i))
      ∧ ∀ i, IsReal (m' ((c.tc : Thread Cert.ReferenceIdeal.nD Cert.ReferenceIdeal.τ).loc Cert.ReferenceIdeal.main_arg1) i) := by
    rw [ha, hb]; exact hreal c
  have h0 := (e0.trans (val_main_v43_eq m' c)).trans ((Equation.dispatch_eq _ _ hx hw).trans
    (hread fun X W => (fun i : Cert.KernelIdeal.S8192x16.Idx => dispatch (probsRow X W (i 0)) (i 1))))
  refine ⟨h0, h0, ?_, ?_, ?_, ?_, ?_, ea, eb⟩
  · exact (e2.trans (val_main_v2_eq _ _)).trans ((Equation.logits_eq _ _).trans
      (hread fun X W => (fun i : Cert.KernelIdeal.S8192x16.Idx => logitsRow X W (i 0) (i 1))))
  · exact (e3.trans (val_main_v13_eq _ _)).trans ((Equation.probs_eq _ _).trans
      (hread fun X W => (fun i : Cert.KernelIdeal.S8192x16.Idx => probsRow X W (i 0) (i 1))))
  · exact (e4.trans (val_main_v25_eq m' c)).trans ((Equation.scalar_eq _ _ hx hw).trans
      (hread fun X W => (fun _ : Cert.KernelIdeal.S_.Idx => meanSquares X W)))
  · exact (e5.trans (val_main_indices_eq _ _)).trans ((Equation.indices_eq _ _ hx hw).trans
      (hread fun X W => (fun i : Cert.KernelIdeal.S8192x2.Idx => topIdx (probsRow X W (i 0)) (i 1))))
  · exact (e6.trans (val_main_v17_eq m' c)).trans ((Equation.shares_eq _ _ hx hw).trans
      (hread fun X W => (fun i : Cert.KernelIdeal.S8192x2.Idx => topShare (probsRow X W (i 0)) (i 1))))

/-- Every claim of the certificate. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g, fun m g _ => Cert.KernelIdeal.Gen.frame m g, fun m g _ => Cert.KernelIdeal.Gen.frame m g,
    fun m g _ => reference_frame m g, fun m g _ => reference_frame m g, trivial, equal_results⟩

end Cert.Proof

end
